-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_four_nearest_apart [hPre_four_nearest_apart : Cert.Pre_four_nearest_apart.Facts] (m : (ℓ : Loc Cert.KernelIdeal.nD Cert.KernelIdeal.τ Cert.KernelIdeal.sig) → Buf (Elt Ideal) ℓ) : Prop :=
  ∀ c : Dev Cert.KernelIdeal.nD,
    (Cert.Pre_four_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_four_nearest_apart [hPre_four_nearest_apart : Cert.Pre_four_nearest_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_four_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_four_nearest_apart [hKernelIdeal : Cert.KernelIdeal.Facts] [hPre_four_nearest_apart : Cert.Pre_four_nearest_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_four_nearest_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_four_nearest_apart [hReferenceIdeal : Cert.ReferenceIdeal.Facts] [hPre_four_nearest_apart : Cert.Pre_four_nearest_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_four_nearest_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps_sq" .f32 0x1E3CE508#32 ((1 / 100000000000000000000 : ℝ) : EReal)

def algebraic_KernelIdeal_ReferenceIdeal_pre_four_nearest_apart [hKernelIdeal : Cert.KernelIdeal.Facts] [hReferenceIdeal : Cert.ReferenceIdeal.Facts] [hPre_four_nearest_apart : Cert.Pre_four_nearest_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_four_nearest_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_four_nearest_apart : Cert.Pre_four_nearest_apart.Facts),
    quiescent_Kernel (hKernel := hKernel)
    ∧ quiescent_KernelIdeal (hKernelIdeal := hKernelIdeal)
    ∧ quiescent_KernelIdeal_pre_four_nearest_apart (hKernelIdeal := hKernelIdeal) (hPre_four_nearest_apart := hPre_four_nearest_apart)
    ∧ quiescent_ReferenceIdeal (hReferenceIdeal := hReferenceIdeal)
    ∧ quiescent_ReferenceIdeal_pre_four_nearest_apart (hReferenceIdeal := hReferenceIdeal) (hPre_four_nearest_apart := hPre_four_nearest_apart)
    ∧ preserves_Kernel_KernelIdeal
    ∧ algebraic_KernelIdeal_ReferenceIdeal_pre_four_nearest_apart (hKernelIdeal := hKernelIdeal) (hReferenceIdeal := hReferenceIdeal) (hPre_four_nearest_apart := hPre_four_nearest_apart)
-- ==== Pre_four_nearest_apart.lean ====
abbrev S1x3x16384 : Shape := ⟨3, ![1, 3, 16384]⟩
abbrev S1x3x4096 : Shape := ⟨3, ![1, 3, 4096]⟩
abbrev S1x16384x3 : Shape := ⟨3, ![1, 16384, 3]⟩
abbrev S1x4096x3 : Shape := ⟨3, ![1, 4096, 3]⟩
abbrev S1x16384x4096 : Shape := ⟨3, ![1, 16384, 4096]⟩
abbrev S_ : Shape := ⟨0, ![]⟩
abbrev S1x16384 : Shape := ⟨2, ![1, 16384]⟩
abbrev S1x16384x1 : Shape := ⟨3, ![1, 16384, 1]⟩
abbrev S1x4096 : Shape := ⟨2, ![1, 4096]⟩
abbrev S1x1x4096 : Shape := ⟨3, ![1, 1, 4096]⟩
abbrev S1x16384x4 : Shape := ⟨3, ![1, 16384, 4]⟩

class Facts : Prop where
  transposes_S1x3x16384_S1x16384x3_0_2_1 : S1x3x16384.Transposes [0, 2, 1] S1x16384x3
  transposes_S1x3x4096_S1x4096x3_0_2_1 : S1x3x4096.Transposes [0, 2, 1] S1x4096x3
  bcast_S_S1x16384x4096 : S_.BroadcastsInDim S1x16384x4096 (![] : Fin 0 → Fin S1x16384x4096.rank)
  reducesTo_S1x16384x3_S1x16384_d2 : S1x16384x3.ReducesTo [2] S1x16384
  h_S_ : 0 < S_.numel
  bcast_S1x16384_S1x16384x1_0_1 : S1x16384.BroadcastsInDim S1x16384x1 (![0, 1] : Fin 2 → Fin S1x16384x1.rank)
  bcast_S1x16384x1_S1x16384x4096_0_1_2 : S1x16384x1.BroadcastsInDim S1x16384x4096 (![0, 1, 2] : Fin 3 → Fin S1x16384x4096.rank)
  reducesTo_S1x4096x3_S1x4096_d2 : S1x4096x3.ReducesTo [2] S1x4096
  bcast_S1x4096_S1x1x4096_0_2 : S1x4096.BroadcastsInDim S1x1x4096 (![0, 2] : Fin 2 → Fin S1x1x4096.rank)
  bcast_S1x1x4096_S1x16384x4096_0_1_2 : S1x1x4096.BroadcastsInDim S1x16384x4096 (![0, 1, 2] : Fin 3 → Fin S1x16384x4096.rank)
  sliceFits_S1x16384x4096_S1x16384x4 : S1x16384x4096.Slices (fun _ => 0) S1x16384x4
  slices_S1x16384x4_S1x16384x3_0_0_1 : S1x16384x4.Slices ![0, 0, 1] S1x16384x3
  slices_S1x16384x4_S1x16384x3_0_0_0 : S1x16384x4.Slices ![0, 0, 0] S1x16384x3
  dot_S1x16384x3_S1x4096x3_S1x16384x4096_2_2_1_1_0_0_wf : DotDims.WF S1x16384x3 S1x4096x3 S1x16384x4096 [2] [2] [1] [1] [0] [0]

variable [Facts]

def dot_S1x16384x3_S1x4096x3_S1x16384x4096_2_2_1_1_0_0 : DotDims S1x16384x3 S1x4096x3 S1x16384x4096 where
  lhsContracting := [2]
  rhsContracting := [2]
  lhsNonContracting := [1]
  rhsNonContracting := [1]
  lhsBatch := [0]
  rhsBatch := [0]
  wf := dot_S1x16384x3_S1x4096x3_S1x16384x4096_2_2_1_1_0_0_wf
def fn {F : FTy → Type} [FloatOps F] (main_arg0 : FVec F S1x3x16384 .f32) (main_arg1 : FVec F S1x3x4096 .f32) (main_arg2 : FVec F S1x3x4096 .f32) : IVec S1x16384x3 1 :=
  let main_v0 : FVec F S1x16384x3 .f32 := (transpose S1x16384x3 [0, 2, 1] · transposes_S1x3x16384_S1x16384x3_0_2_1) main_arg0
  let main_v1 : FVec F S1x4096x3 .f32 := (transpose S1x4096x3 [0, 2, 1] · transposes_S1x3x4096_S1x4096x3_0_2_1) main_arg1
  let main_v2 : FVec F S1x16384x4096 .f32 := (fun l r => Host.dotGeneral dot_S1x16384x3_S1x4096x3_S1x16384x4096_2_2_1_1_0_0 none l r) main_v0 main_v1
  let main_cst : FVec F S_ .f32 := constant S_ .f32 0xC0000000#32
  let main_v3 : FVec F S1x16384x4096 .f32 := broadcastInDim S1x16384x4096 ![] bcast_S_S1x16384x4096 main_cst
  let main_v4 : FVec F S1x16384x4096 .f32 := mulf main_v3 main_v2
  let main_v5 : FVec F S1x16384x3 .f32 := mulf main_v0 main_v0
  let main_cst_0 : FVec F S_ .f32 := constant S_ .f32 0x00000000#32
  let main_v6 : FVec F S1x16384 .f32 := (fun x v => Host.reduceAdd x v reducesTo_S1x16384x3_S1x16384_d2 h_S_) main_v5 main_cst_0
  let main_v7 : FVec F S1x16384x1 .f32 := broadcastInDim S1x16384x1 ![0, 1] bcast_S1x16384_S1x16384x1_0_1 main_v6
  let main_v8 : FVec F S1x16384x4096 .f32 := broadcastInDim S1x16384x4096 ![0, 1, 2] bcast_S1x16384x1_S1x16384x4096_0_1_2 main_v7
  let main_v9 : FVec F S1x16384x4096 .f32 := addf main_v4 main_v8
  let main_v10 : FVec F S1x4096x3 .f32 := mulf main_v1 main_v1
  let main_cst_1 : FVec F S_ .f32 := constant S_ .f32 0x00000000#32
  let main_v11 : FVec F S1x4096 .f32 := (fun x v => Host.reduceAdd x v reducesTo_S1x4096x3_S1x4096_d2 h_S_) main_v10 main_cst_1
  let main_v12 : FVec F S1x1x4096 .f32 := broadcastInDim S1x1x4096 ![0, 2] bcast_S1x4096_S1x1x4096_0_2 main_v11
  let main_v13 : FVec F S1x16384x4096 .f32 := broadcastInDim S1x16384x4096 ![0, 1, 2] bcast_S1x1x4096_S1x16384x4096_0_1_2 main_v12
  let main_v14 : FVec F S1x16384x4096 .f32 := addf main_v9 main_v13
  let main_v15 : FVec F S1x16384x4096 .f32 := Host.negf main_v14
  let main_values : FVec F S1x16384x4 .f32 := (fun x => (Host.topK S1x16384x4 2 (FloatOps.cmpfTotal .gt) x sliceFits_S1x16384x4096_S1x16384x4).1) main_v15
  let main_indices : IVec S1x16384x4 32 := (fun x => (Host.topK S1x16384x4 2 (FloatOps.cmpfTotal .gt) x sliceFits_S1x16384x4096_S1x16384x4).2) main_v15
  let main_v16 : FVec F S1x16384x3 .f32 := (extractStridedSlice S1x16384x3 ![0, 0, 1] · slices_S1x16384x4_S1x16384x3_0_0_1) main_values
  let main_v17 : FVec F S1x16384x3 .f32 := (extractStridedSlice S1x16384x3 ![0, 0, 0] · slices_S1x16384x4_S1x16384x3_0_0_0) main_values
  let main_v18 : IVec S1x16384x3 1 := cmpf .olt main_v16 main_v17
  main_v18
-- ==== Kernel.lean ====
abbrev S1x3x16384 : Shape := ⟨3, ![1, 3, 16384]⟩
abbrev S1x3x4096 : Shape := ⟨3, ![1, 3, 4096]⟩
abbrev S3x16384 : Shape := ⟨2, ![3, 16384]⟩
abbrev S3x4096 : Shape := ⟨2, ![3, 4096]⟩
abbrev S4096x3 : Shape := ⟨2, ![4096, 3]⟩
abbrev S_ : Shape := ⟨0, ![]⟩
abbrev S4096 : Shape := ⟨1, ![4096]⟩
abbrev S4096x1 : Shape := ⟨2, ![4096, 1]⟩
abbrev S3x512 : Shape := ⟨2, ![3, 512]⟩
abbrev S1x512 : Shape := ⟨2, ![1, 512]⟩
abbrev S4096x512 : Shape := ⟨2, ![4096, 512]⟩
abbrev S512 : Shape := ⟨1, ![512]⟩

abbrev nBuf : Space → Nat
  | .hbm => 14
  | .vmem => 7
  | .smem => 0
  | _ => 0

abbrev bufTy : (tb : Table) → Fin (tcTables nBuf tb) → BufTy
  | .hbm, ⟨0, _⟩ => ⟨S1x3x16384, .f32⟩
  | .hbm, ⟨1, _⟩ => ⟨S1x3x4096, .f32⟩
  | .hbm, ⟨2, _⟩ => ⟨S1x3x4096, .f32⟩
  | .hbm, ⟨3, _⟩ => ⟨S3x16384, .f32⟩
  | .hbm, ⟨4, _⟩ => ⟨S3x4096, .f32⟩
  | .hbm, ⟨5, _⟩ => ⟨S4096x3, .f32⟩
  | .hbm, ⟨6, _⟩ => ⟨S3x4096, .f32⟩
  | .hbm, ⟨7, _⟩ => ⟨S4096x3, .f32⟩
  | .hbm, ⟨8, _⟩ => ⟨S4096x3, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S3x16384, .f32⟩
  | .hbm, ⟨13, _⟩ => ⟨S1x3x16384, .f32⟩
  | .local _ .vmem, ⟨0, _⟩ => ⟨S3x512, .f32⟩
  | .local _ .vmem, ⟨1, _⟩ => ⟨S3x512, .f32⟩
  | .local _ .vmem, ⟨2, _⟩ => ⟨S4096x3, .f32⟩
  | .local _ .vmem, ⟨3, _⟩ => ⟨S4096x3, .f32⟩
  | .local _ .vmem, ⟨4, _⟩ => ⟨S4096x1, .f32⟩
  | .local _ .vmem, ⟨5, _⟩ => ⟨S3x512, .f32⟩
  | .local _ .vmem, ⟨6, _⟩ => ⟨S3x512, .f32⟩
  | _, _ => ⟨S1x3x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "eps_sq" => some ((1 / 100000000000000000000 : ℝ) : EReal)
  | _ => none
-- ==== ReferenceIdeal.lean ====
abbrev S1x3x16384 : Shape := ⟨3, ![1, 3, 16384]⟩
abbrev S1x3x4096 : Shape := ⟨3, ![1, 3, 4096]⟩
abbrev S1x16384x3 : Shape := ⟨3, ![1, 16384, 3]⟩
abbrev S1x4096x3 : Shape := ⟨3, ![1, 4096, 3]⟩
abbrev S1x16384x4096 : Shape := ⟨3, ![1, 16384, 4096]⟩
abbrev S_ : Shape := ⟨0, ![]⟩
abbrev S1x16384 : Shape := ⟨2, ![1, 16384]⟩
abbrev S1x16384x1 : Shape := ⟨3, ![1, 16384, 1]⟩
abbrev S1x4096 : Shape := ⟨2, ![1, 4096]⟩
abbrev S1x1x4096 : Shape := ⟨3, ![1, 1, 4096]⟩
abbrev S1x16384x3x1 : Shape := ⟨4, ![1, 16384, 3, 1]⟩
abbrev S1x16384x3x3 : Shape := ⟨4, ![1, 16384, 3, 3]⟩
abbrev S1x16384x1x3 : Shape := ⟨4, ![1, 16384, 1, 3]⟩

abbrev nBuf : Space → Nat
  | .hbm => 72
  | .vmem => 0
  | .smem => 0
  | _ => 0

abbrev bufTy : (tb : Table) → Fin (tcTables nBuf tb) → BufTy
  | .hbm, ⟨0, _⟩ => ⟨S1x3x16384, .f32⟩
  | .hbm, ⟨1, _⟩ => ⟨S1x3x4096, .f32⟩
  | .hbm, ⟨2, _⟩ => ⟨S1x3x4096, .f32⟩
  | .hbm, ⟨3, _⟩ => ⟨S1x16384x3, .f32⟩
  | .hbm, ⟨4, _⟩ => ⟨S1x4096x3, .f32⟩
  | .hbm, ⟨5, _⟩ => ⟨S1x4096x3, .f32⟩
  | .hbm, ⟨6, _⟩ => ⟨S1x16384x4096, .f32⟩
  | .hbm, ⟨7, _⟩ => ⟨S_, .f32⟩
  | .hbm, ⟨8, _⟩ => ⟨S1x16384x4096, .f32⟩
  | .hbm, ⟨9, _⟩ => ⟨S1x16384x4096, .f32⟩
  | .hbm, ⟨10, _⟩ => ⟨S1x16384x3, .f32⟩
  | .hbm, ⟨11, _⟩ => ⟨S_, .f32⟩
  | .hbm, ⟨12, _⟩ => ⟨S1x16384, .f32⟩
  | .hbm, ⟨13, _⟩ => ⟨S1x16384x1, .f32⟩
  | .hbm, ⟨14, _⟩ => ⟨S1x16384x4096, .f32⟩
  | .hbm, ⟨15, _⟩ => ⟨S1x16384x4096, .f32⟩
  | .hbm, ⟨16, _⟩ => ⟨S1x4096x3, .f32⟩
  | .hbm, ⟨17, _⟩ => ⟨S_, .f32⟩
  | .hbm, ⟨18, _⟩ => ⟨S1x4096, .f32⟩
  | .hbm, ⟨19, _⟩ => ⟨S1x1x4096, .f32⟩
  | .hbm, ⟨20, _⟩ => ⟨S1x16384x4096, .f32⟩
  | .hbm, ⟨21, _⟩ => ⟨S1x16384x4096, .f32⟩
  | .hbm, ⟨22, _⟩ => ⟨S1x16384x4096, .f32⟩
  | .hbm, ⟨23, _⟩ => ⟨S1x16384x3, .f32⟩
  | .hbm, ⟨24, _⟩ => ⟨S1x16384x3, .i32⟩
  | .hbm, ⟨25, _⟩ => ⟨S_, .i32⟩
  | .hbm, ⟨26, _⟩ => ⟨S1x16384x3, .i32⟩
  | .hbm, ⟨27, _⟩ => ⟨S1x16384x3, .i1⟩
  | .hbm, ⟨28, _⟩ => ⟨S_, .i32⟩
  | .hbm, ⟨29, _⟩ => ⟨S1x16384x3, .i32⟩
  | .hbm, ⟨30, _⟩ => ⟨S1x16384x3, .i32⟩
  | .hbm, ⟨31, _⟩ => ⟨S1x16384x3, .i32⟩
  | .hbm, ⟨32, _⟩ => ⟨S1x16384x3x1, .i32⟩
  | .hbm, ⟨33, _⟩ => ⟨S1x16384x3x3, .f32⟩
  | .hbm, ⟨34, _⟩ => ⟨S1x16384x1x3, .f32⟩
  | .hbm, ⟨35, _⟩ => ⟨S1x16384x3x3, .f32⟩
  | .hbm, ⟨36, _⟩ => ⟨S1x16384x3x3, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x16384x3x3, .f32⟩
  | .hbm, ⟨41, _⟩ => ⟨S_, .f32⟩
  | .hbm, ⟨42, _⟩ => ⟨S1x16384x3, .f32⟩
  | .hbm, ⟨43, _⟩ => ⟨S1x16384x3, .f32⟩
  | .hbm, ⟨44, _⟩ => ⟨S1x16384x3, .f32⟩
  | .hbm, ⟨45, _⟩ => ⟨S1x16384x3, .f32⟩
  | .hbm, ⟨46, _⟩ => ⟨S_, .f32⟩
  | .hbm, ⟨47, _⟩ => ⟨S1x16384x3, .f32⟩
  | .hbm, ⟨48, _⟩ => ⟨S1x16384x3, .f32⟩
  | .hbm, ⟨49, _⟩ => ⟨S_, .f32⟩
  | .hbm, ⟨50, _⟩ => ⟨S1x16384, .f32⟩
  | .hbm, ⟨51, _⟩ => ⟨S1x16384x1, .f32⟩
  | .hbm, ⟨52, _⟩ => ⟨S_, .f32⟩
  | .hbm, ⟨53, _⟩ => ⟨S1x16384x3, .f32⟩
  | .hbm, ⟨54, _⟩ => ⟨S1x16384x3, .f32⟩
  | .hbm, ⟨55, _⟩ => ⟨S1x16384x3, .f32⟩
  | .hbm, ⟨56, _⟩ => ⟨S1x16384x3, .f32⟩
  | .hbm, ⟨57, _⟩ => ⟨S_, .i32⟩
  | .hbm, ⟨58, _⟩ => ⟨S1x16384x3, .i32⟩
  | .hbm, ⟨59, _⟩ => ⟨S1x16384x3, .i1⟩
  | .hbm, ⟨60, _⟩ => ⟨S_, .i32⟩
  | .hbm, ⟨61, _⟩ => ⟨S1x16384x3, .i32⟩
  | .hbm, ⟨62, _⟩ => ⟨S1x16384x3, .i32⟩
  | .hbm, ⟨63, _⟩ => ⟨S1x16384x3, .i32⟩
  | .hbm, ⟨64, _⟩ => ⟨S1x16384x3x1, .i32⟩
  | .hbm, ⟨65, _⟩ => ⟨S1x16384x3x3, .f32⟩
  | .hbm, ⟨66, _⟩ => ⟨S1x16384x3x1, .f32⟩
  | .hbm, ⟨67, _⟩ => ⟨S1x16384x3x3, .f32⟩
  | .hbm, ⟨68, _⟩ => ⟨S1x16384x3x3, .f32⟩
  | .hbm, ⟨69, _⟩ => ⟨S_, .f32⟩
  | .hbm, ⟨70, _⟩ => ⟨S1x16384x3, .f32⟩
  | .hbm, ⟨71, _⟩ => ⟨S1x3x16384, .f32⟩
  | _, _ => ⟨S1x3x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_cst_4 : Ref sig .tc := ⟨.hbm, 38, rfl⟩
abbrev main_v27 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_v28 : Ref sig .tc := ⟨.hbm, 43, rfl⟩
abbrev main_call1_v0 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.Weights.lean ====
/- Squared distances and inverse-distance weights over the extended reals, for one query and its keys: when an expanded
   squared distance is a real number, what the weights are, and why the division by their sum may be done before
   or after the flows are summed. -/
module

public import Idealize.ShloMosaic.PureOps.Ideal

@[expose] public section

noncomputable section

namespace Cert.Proof

open Idealize.ShloMosaic
open scoped BigOperators

/-- The expanded squared distance `-2 p·k + |p|² + |k|²` of two points. -/
def expanded (p k : Fin 3 → EReal) : EReal :=
  ((-2 : ℝ) : EReal) * (∑ c, p c * k c) + (∑ c, p c * p c) + ∑ c, k c * k c

/-- The squared distance `Σ (k - p)²` of two points. -/
def apart (p k : Fin 3 → EReal) : EReal := ∑ c, (k c - p c) * (k c - p c)

/-- The weight of a key at squared distance `D`: one over the distance, the distance kept at least `10⁻¹⁰`. -/
def weight (D : EReal) : EReal := Ideal.div 1 (max ((1 / 10000000000 : ℝ) : EReal) (Ideal.sqrt D))

/-- A square is not negative. -/
theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- A squared distance is not negative. -/
theorem apart_nonneg (p k : Fin 3 → EReal) : 0 ≤ apart p k := Finset.sum_nonneg fun _ _ => square_nonneg _

/-- If a sum of three squares is not `⊤`, every summed number is real. -/
theorem real_of_squares (p : Fin 3 → EReal) (h : ∑ c, p c * p c ≠ ⊤) (c : Fin 3) : ∃ r : ℝ, p c = r := by
  have hc : p c * p c ≠ ⊤ := fun e => h <| top_le_iff.mp <|
    e ▸ Finset.single_le_sum (f := fun c => p c * p c) (fun i _ => square_nonneg (p i)) (Finset.mem_univ c)
  generalize p c = x at hc
  induction x with
  | bot => exact absurd EReal.bot_mul_bot hc
  | top => exact absurd EReal.top_mul_top hc
  | coe r => exact ⟨r, rfl⟩

/-- A summand `b` of a sum that is neither `⊥` nor `⊤` is not `⊤`. -/
theorem ne_top_of_add (a b : EReal) (hb : a + b ≠ ⊥) (ht : a + b ≠ ⊤) : b ≠ ⊤ := by
  rintro rfl
  by_cases ha : a = ⊥
  · rw [ha, EReal.bot_add] at hb; exact hb rfl
  · rw [EReal.add_top_of_ne_bot ha] at ht; exact ht rfl

/-- A summand `a` of a sum that is neither `⊥` nor `⊤` is neither. -/
theorem left_of_add (a b : EReal) (hb : a + b ≠ ⊥) (ht : a + b ≠ ⊤) : a ≠ ⊥ ∧ a ≠ ⊤ :=
  ⟨fun e => hb (by rw [e, EReal.bot_add]), ne_top_of_add b a (by rwa [add_comm]) (by rwa [add_comm])⟩

/-- Where the expanded squared distance is real, so is the squared distance. -/
theorem apart_real (p k : Fin 3 → EReal) (hb : expanded p k ≠ ⊥) (ht : expanded p k ≠ ⊤) :
    ∃ r : ℝ, 0 ≤ r ∧ apart p k = r := by
  have hk := real_of_squares k (ne_top_of_add _ _ hb ht)
  have h2 := left_of_add _ _ hb ht
  have hp := real_of_squares p (ne_top_of_add _ _ h2.1 h2.2)
  choose kr hkr using hk
  choose pr hpr using hp
  refine ⟨∑ c, (kr c - pr c) * (kr c - pr c), Finset.sum_nonneg fun c _ => mul_self_nonneg _, ?_⟩
  unfold apart
  simp only [hkr, hpr, Fin.sum_univ_three, EReal.coe_add, EReal.coe_mul, EReal.coe_sub]

/-- The greater of two real numbers, as an extended real. -/
theorem real_max (a b : ℝ) : ((max a b : ℝ) : EReal) = max (a : EReal) (b : EReal) :=
  EReal.coe_strictMono.monotone.map_max

/-- The weight at a real squared distance is a positive real number. -/
theorem weight_coe (r : ℝ) (hr : 0 ≤ r) :
    weight (r : EReal) = ((1 / max (1 / 10000000000) (Real.sqrt r) : ℝ) : EReal) := by
  have hpos : (0 : ℝ) < max (1 / 10000000000) (Real.sqrt r) := lt_max_of_lt_left (by norm_num)
  unfold weight
  rw [Ideal.sqrt_coe, if_neg (not_lt.mpr hr), ← real_max, Ideal.div_coe hpos.ne', one_mul]

/-- The weight at an infinite squared distance is zero. -/
theorem weight_top : weight ⊤ = 0 := by
  unfold weight
  rw [Ideal.sqrt_top, max_eq_right le_top]
  unfold Ideal.div
  rw [if_neg EReal.top_ne_zero, EReal.inv_top, mul_zero]

/-- Every weight is a real number that is not negative. -/
theorem weight_real (D : EReal) (hD : 0 ≤ D) : ∃ w : ℝ, 0 ≤ w ∧ weight D = w := by
  induction D with
  | bot => exact absurd hD (by simp)
  | top => exact ⟨0, le_rfl, weight_top⟩
  | coe r => exact ⟨_, by positivity, weight_coe r (EReal.coe_nonneg.mp hD)⟩

/-- The reciprocal square root of the squared distance, kept at least `10⁻²⁰`, is the weight. -/
theorem rsqrt_eq_weight (D : EReal) (hD : 0 ≤ D) :
    Ideal.rsqrt (max D ((1 / 100000000000000000000 : ℝ) : EReal)) = weight D := by
  induction D with
  | bot => exact absurd hD (by simp)
  | top => rw [max_eq_left le_top, Ideal.rsqrt_top, weight_top]
  | coe r =>
    have hr : 0 ≤ r := EReal.coe_nonneg.mp hD
    have hpos : (0 : ℝ) < max r (1 / 100000000000000000000) := lt_max_of_lt_right (by norm_num)
    have hroot : Real.sqrt (1 / 100000000000000000000) = 1 / 10000000000 := by
      rw [show (1 / 100000000000000000000 : ℝ) = (1 / 10000000000) ^ 2 by norm_num]
      exact Real.sqrt_sq (by norm_num)
    rw [weight_coe r hr, ← real_max, Ideal.rsqrt_coe, if_neg (not_lt.mpr hpos.le), if_neg hpos.ne',
      Real.sqrt_monotone.map_max, hroot, max_comm, ← one_div]

/-- Multiplication by a real number that is not negative distributes over a sum of three extended reals. -/
theorem sum_mul_coe (a : Fin 3 → EReal) (w : ℝ) (hw : 0 ≤ w) : (∑ k, a k) * (w : EReal) = ∑ k, a k * (w : EReal) := by
  have h : ∀ x y : EReal, (x + y) * (w : EReal) = x * w + y * w := fun x y =>
    EReal.right_distrib_of_nonneg_of_ne_top (EReal.coe_nonneg.mpr hw) (EReal.coe_ne_top w) x y
  rw [Fin.sum_univ_three, Fin.sum_univ_three, h, h]

/-- With weights that are real, not negative and not all zero, the weighted flows may be summed first and scaled by one over
    the sum of the weights, or each weight divided by that sum first. -/
theorem scale_after_eq_before (w : Fin 3 → ℝ) (hw : ∀ k, 0 ≤ w k) (k₀ : Fin 3) (hk₀ : 0 < w k₀) (f : Fin 3 → EReal) :
    (∑ k, (w k : EReal) * f k) * Ideal.div 1 (∑ k, (w k : EReal))
      = ∑ k, Ideal.div (w k : EReal) (∑ k, (w k : EReal)) * f k := by
  have hs : ∑ k, (w k : EReal) = ((∑ k, w k : ℝ) : EReal) := by
    simp only [Fin.sum_univ_three, EReal.coe_add]
  have hpos : 0 < ∑ k, w k :=
    lt_of_lt_of_le hk₀ (Finset.single_le_sum (fun i _ => hw i) (Finset.mem_univ k₀))
  rw [hs, Ideal.div_coe hpos.ne', one_mul, sum_mul_coe _ _ (by positivity)]
  refine Finset.sum_congr rfl fun k _ => ?_
  rw [Ideal.div_coe hpos.ne', mul_right_comm]

end Cert.Proof

end
-- ==== Proof.Nearest.lean ====
/- What the stable sort of a row puts in its first places: the positions of the row's greatest entries, in order. -/
module

public import Idealize.ShloMosaic.Lib.SortFacts
public import Idealize.ShloMosaic.Lib.ValueIdx
public import Idealize.ShloMosaic.PureOps.Ideal

@[expose] public section

noncomputable section

namespace Cert.Proof

open Idealize.ShloMosaic

variable {n : Nat}

/-- "The entry at `a` is greater than the entry at `b`", as a sort reads it. -/
def greater (x : Fin n → EReal) (a b : Fin n) : Bool := Ideal.cmpTotal .gt (x a) (x b) == 1#1

/-- That reading is the order of the extended reals. -/
theorem greater_eq (x : Fin n → EReal) (a b : Fin n) : greater x a b = decide (x b < x a) := by
  unfold greater Ideal.cmpTotal Ideal.cmp
  show (BitVec.ofBool (decide (x b < x a)) == 1#1) = _
  cases decide (x b < x a) <;> rfl

/-- The position of the `k`-th greatest entry of a row, equal entries in the order of their positions. -/
def rank (x : Fin n → EReal) (k : Fin n) : Fin n := sortedFrom (greater x) k

/-- A later rank's entry is not greater than an earlier one's. -/
theorem rank_antitone (x : Fin n → EReal) (i j : Fin n) (h : i < j) : x (rank x j) ≤ x (rank x i) := by
  have := sortedFrom_noInversion (greater x) (greater x)
    (fun a b hab => by
      rw [greater_eq, decide_eq_true_eq] at hab
      rw [greater_eq, decide_eq_false_iff_not]
      exact hab.asymm)
    (fun _ _ h => h)
    (fun a b c hab hbc => by
      rw [greater_eq, decide_eq_false_iff_not, not_lt] at hab hbc ⊢
      exact hab.trans hbc) i j h
  rw [greater_eq, decide_eq_false_iff_not, not_lt] at this
  exact this

/-- Every position has a rank. -/
theorem exists_rank (x : Fin n → EReal) (s : Fin n) : ∃ k, rank x k = s := sortedFrom_surjective (greater x) s

/-- A position that holds none of the ranks below `k` holds an entry no greater than the one of rank `k`. -/
theorem le_of_not_rank (x : Fin n → EReal) (k s : Fin n) (h : ∀ i, i < k → s ≠ rank x i) : x s ≤ x (rank x k) := by
  obtain ⟨j, rfl⟩ := exists_rank x s
  rcases lt_trichotomy j k with hjk | rfl | hkj
  · exact absurd rfl (h j hjk)
  · exact le_rfl
  · exact rank_antitone x k j hkj

end Cert.Proof

end
-- ==== Proof.Target.lean ====
module

public import proofs.«01_k».proof.Proof.Weights
public import proofs.«01_k».proof.Proof.Nearest
public import Idealize.ShloMosaic.Lib.Pointwise

@[expose] public section

noncomputable section

/-! The interpolation as mathematics: the value both programs are shown to compute. -/

namespace Cert.Proof

open Idealize.ShloMosaic
open scoped BigOperators

/-- The three coordinates of point `i` in an array of `N` points. -/
def point {N : Nat} (a : FVec Ideal ⟨3, ![1, 3, N]⟩ .f32) (i : Fin N) : Fin 3 → EReal := fun c => a (ix3 0 c i)

/-- How near each key is to the query: the negated expanded squared distance. -/
def nearness {N : Nat} (p : Fin 3 → EReal) (keys : Fin N → Fin 3 → EReal) : Fin N → EReal :=
  fun s => -expanded p (keys s)

/-- The key of rank `k` (0, 1, 2, 3) when the keys are ordered nearest first. -/
def nearest (p : Fin 3 → EReal) (keys : Fin 4096 → Fin 3 → EReal) (k : Fin 4) : Fin 4096 :=
  rank (nearness p keys) (k.castLE (by decide))

/-- The weight of the key of rank `k`, before normalisation. -/
def weightOf (p : Fin 3 → EReal) (keys : Fin 4096 → Fin 3 → EReal) (k : Fin 3) : EReal :=
  weight (apart p (keys (nearest p keys k.castSucc)))

/-- Component `c` of the interpolated feature at a query: the features of the three nearest keys, each times its
    weight divided by the sum of the three weights. -/
def interpolated (p : Fin 3 → EReal) (keys features : Fin 4096 → Fin 3 → EReal) (c : Fin 3) : EReal :=
  ∑ k : Fin 3, Ideal.div (weightOf p keys k) (∑ j, weightOf p keys j) * features (nearest p keys k.castSucc) c

/-- The four nearest keys stand at strictly increasing distances. -/
def FourApart (p : Fin 3 → EReal) (keys : Fin 4096 → Fin 3 → EReal) : Prop :=
  ∀ k : Fin 3, nearness p keys (nearest p keys k.succ) < nearness p keys (nearest p keys k.castSucc)

end Cert.Proof

end
-- ==== Proof.TopK.lean ====
module

public import proofs.«01_k».proof.Proof.Nearest
public import Idealize.ShloMosaic.Lib.Pointwise

@[expose] public section

noncomputable section

/-! The top entries of each row, at an index. -/

namespace Cert.Proof

open Idealize.ShloMosaic Idealize.ShloMosaic.StableHlo

variable {A B K : Nat}

/-- Moving the last coordinate of an index. -/
theorem update_last {C : Nat} (a : Fin 1) (b : Fin A) (c d : Fin C) : Function.update (ix3 a b c) 2 d = ix3 a b d := by
  funext i
  match i with
  | ⟨0, _⟩ => rfl
  | ⟨1, _⟩ => rfl
  | ⟨2, _⟩ => rfl

/-- The leading entries of a row are the row's own. -/
theorem leading_apply {α : Type} (y : (⟨3, ![1, A, B]⟩ : Shape).Idx → α) (hKB : K ≤ B) (h) (n : Fin A) (k : Fin K) :
    extractStridedSlice ⟨3, ![1, A, K]⟩ (fun _ => 0) y h (ix3 0 n k) = y (ix3 0 n (k.castLE hKB)) := by
  unfold extractStridedSlice
  congr 1
  funext a
  match a with
  | ⟨0, _⟩ => exact Subsingleton.elim (α := Fin 1) _ _
  | ⟨1, _⟩ => exact Fin.ext (Nat.zero_add _)
  | ⟨2, _⟩ => exact Fin.ext (Nat.zero_add _)

/-- Sorting each row greatest first: the position the entry of rank `k` comes from. -/
theorem sorted_position (x : FVec Ideal ⟨3, ![1, A, B]⟩ .f32) (n : Fin A) (k : Fin B) :
    sortedFrom (fun a b => FloatOps.cmpfTotal (F := Ideal) (φ := .f32) .gt
        (x (Function.update (ix3 0 n k) 2 a)) (x (Function.update (ix3 0 n k) 2 b)) == 1#1) k =
      rank (fun s => x (ix3 0 n s)) k := by
  unfold rank
  congr 1
  funext a b
  rw [update_last 0 n k a, update_last 0 n k b]
  rfl

/-- The entry of rank `k` of row `n`. -/
theorem topK_value (x : FVec Ideal ⟨3, ![1, A, B]⟩ .f32) (hKB : K ≤ B) (h) (n : Fin A) (k : Fin K) :
    (Host.topK ⟨3, ![1, A, K]⟩ 2 (FloatOps.cmpfTotal (F := Ideal) (φ := .f32) .gt) x h).1 (ix3 0 n k) =
      x (ix3 0 n (rank (fun s => x (ix3 0 n s)) (k.castLE hKB))) := by
  unfold Host.topK
  dsimp only
  refine (leading_apply _ hKB h n k).trans ?_
  unfold Host.sort2
  refine Eq.trans ?_ (congrArg x (update_last 0 n (k.castLE hKB) _))
  rw [← sorted_position]
  rfl

/-- The position of the entry of rank `k` of row `n`. -/
theorem topK_position (x : FVec Ideal ⟨3, ![1, A, B]⟩ .f32) (hKB : K ≤ B) (h) (n : Fin A) (k : Fin K) :
    (Host.topK ⟨3, ![1, A, K]⟩ 2 (FloatOps.cmpfTotal (F := Ideal) (φ := .f32) .gt) x h).2 (ix3 0 n k) =
      BitVec.ofNat 32 (rank (fun s => x (ix3 0 n s)) (k.castLE hKB)).val := by
  unfold Host.topK
  dsimp only
  refine (leading_apply _ hKB h n k).trans ?_
  unfold Host.sort2
  rw [← sorted_position]
  rfl

end Cert.Proof

end
-- ==== Proof.ReferenceRead.lean ====
module

public import proofs.«01_k».proof.Proof.Target
public import proofs.«01_k».proof.Proof.TopK
public import proofs.«01_k».proof.Proof.Gen.ReferenceIdeal
public import proofs.«01_k».proof.Proof.Gen.Pre_four_nearest_apart

@[expose] public section

set_option maxRecDepth 16384
noncomputable section

/-! The reference, stage by stage, and what each stage holds at an index. -/

namespace Cert.Proof.Reference

open Cert.ReferenceIdeal Cert.ReferenceIdeal.Gen Idealize.ShloMosaic Idealize.ShloMosaic.StableHlo
open scoped BigOperators

/-! ### The literals -/

/-- The word of minus two. -/
theorem minus_two : Ideal.ofBits FTy.f32 0xC0000000#32 = ((-2 : ℝ) : EReal) := by
  simp [Ideal.ofBits, Ideal.ieee, -EReal.coe_mul]; norm_num

/-- The word of one. -/
theorem one_word : Ideal.ofBits FTy.f32 0x3F800000#32 = 1 := by
  simp [Ideal.ofBits, Ideal.ieee, -EReal.coe_mul]; norm_num

/-- The word of ten to the tenth, which the format holds exactly. -/
theorem ten_to_ten : Ideal.ofBits FTy.f32 0x501502F9#32 = ((10000000000 : ℝ) : EReal) := by
  simp [Ideal.ofBits, Ideal.ieee, -EReal.coe_mul]; norm_num

/-- One over ten to the tenth. -/
theorem floor_word : Ideal.div 1 (Ideal.ofBits FTy.f32 0x501502F9#32) = ((1 / 10000000000 : ℝ) : EReal) := by
  rw [ten_to_ten, Ideal.div_coe (by norm_num)]; simp

/-! ### The stages -/

/-- An array of points with the coordinate on the last axis: the queries. -/
abbrev turnQ (a : FVec Ideal S1x3x16384 .f32) : FVec Ideal S1x16384x3 .f32 :=
  transpose S1x16384x3 [0, 2, 1] a transposes_S1x3x16384_S1x16384x3_0_2_1
/-- An array of points with the coordinate on the last axis: the keys, or the features. -/
abbrev turnK (a : FVec Ideal S1x3x4096 .f32) : FVec Ideal S1x4096x3 .f32 :=
  transpose S1x4096x3 [0, 2, 1] a transposes_S1x3x4096_S1x4096x3_0_2_1

/-- Minus two times the inner products of the queries with the keys. -/
def cross (a0 : FVec Ideal S1x3x16384 .f32) (a1 : FVec Ideal S1x3x4096 .f32) : FVec Ideal S1x16384x4096 .f32 :=
  mulf (broadcastInDim S1x16384x4096 ![] bcast_S_S1x16384x4096 (constant S_ .f32 0xC0000000#32))
    (Host.dotGeneral dot_S1x16384x3_S1x4096x3_S1x16384x4096_2_2_1_1_0_0 none (turnQ a0) (turnK a1))

/-- The queries' squared lengths, one row each. -/
def lengthsQ (a0 : FVec Ideal S1x3x16384 .f32) : FVec Ideal S1x16384x4096 .f32 :=
  broadcastInDim S1x16384x4096 ![0, 1, 2] bcast_S1x16384x1_S1x16384x4096_0_1_2
    (broadcastInDim S1x16384x1 ![0, 1] bcast_S1x16384_S1x16384x1_0_1
      (Host.reduceAdd (mulf (turnQ a0) (turnQ a0)) (constant S_ .f32 0x00000000#32) reducesTo_S1x16384x3_S1x16384_d2 h_S_))

/-- The keys' squared lengths, one column each. -/
def lengthsK (a1 : FVec Ideal S1x3x4096 .f32) : FVec Ideal S1x16384x4096 .f32 :=
  broadcastInDim S1x16384x4096 ![0, 1, 2] bcast_S1x1x4096_S1x16384x4096_0_1_2
    (broadcastInDim S1x1x4096 ![0, 2] bcast_S1x4096_S1x1x4096_0_2
      (Host.reduceAdd (mulf (turnK a1) (turnK a1)) (constant S_ .f32 0x00000000#32) reducesTo_S1x4096x3_S1x4096_d2 h_S_))

/-- The negated expanded squared distances of every query to every key. -/
def scores (a0 : FVec Ideal S1x3x16384 .f32) (a1 : FVec Ideal S1x3x4096 .f32) : FVec Ideal S1x16384x4096 .f32 :=
  Host.negf (addf (addf (cross a0 a1) (lengthsQ a0)) (lengthsK a1))

/-- The positions of the three highest scores of every query. -/
def chosen (a0 : FVec Ideal S1x3x16384 .f32) (a1 : FVec Ideal S1x3x4096 .f32) : IVec S1x16384x3 32 :=
  (Host.topK S1x16384x3 2 (FloatOps.cmpfTotal .gt) (scores a0 a1) sliceFits_S1x16384x4096_S1x16384x3).2

/-- Those positions with a negative one counted from the end, as the rows to take. -/
def rows (a0 : FVec Ideal S1x3x16384 .f32) (a1 : FVec Ideal S1x3x4096 .f32) : IVec S1x16384x3x1 32 :=
  broadcastInDim S1x16384x3x1 ![0, 1, 2] bcast_S1x16384x3_S1x16384x3x1_0_1_2
    (select (cmpi .slt (chosen a0 a1) (broadcastInDim S1x16384x3 ![] bcast_S_S1x16384x3 (constantI S_ 32 0#32)))
      (addi (chosen a0 a1) (broadcastInDim S1x16384x3 ![] bcast_S_S1x16384x3 (constantI S_ 32 4096#32))) (chosen a0 a1))

/-- The chosen rows of an array of points. -/
def taken (a0 : FVec Ideal S1x3x16384 .f32) (a1 a : FVec Ideal S1x3x4096 .f32) : FVec Ideal S1x16384x3x3 .f32 :=
  Host.gather gather_S1x4096x3_S1x16384x3x1_S1x16384x3x3_3_1_0_0_1_3_113 (turnK a) (rows a0 a1)

/-- The chosen keys less their query. -/
def offsets (a0 : FVec Ideal S1x3x16384 .f32) (a1 : FVec Ideal S1x3x4096 .f32) : FVec Ideal S1x16384x3x3 .f32 :=
  subf (taken a0 a1 a1) (broadcastInDim S1x16384x3x3 ![0, 1, 2, 3] bcast_S1x16384x1x3_S1x16384x3x3_0_1_2_3
    (broadcastInDim S1x16384x1x3 ![0, 1, 3] bcast_S1x16384x3_S1x16384x1x3_0_1_3 (turnQ a0)))

/-- One over the distance of each chosen key, the distance no less than the floor. -/
def inverses (a0 : FVec Ideal S1x3x16384 .f32) (a1 : FVec Ideal S1x3x4096 .f32) : FVec Ideal S1x16384x3 .f32 :=
  Host.divf (broadcastInDim S1x16384x3 ![] bcast_S_S1x16384x3 (constant S_ .f32 0x3F800000#32))
    (maximumf (broadcastInDim S1x16384x3 ![] bcast_S_S1x16384x3
        (Host.divf (constant S_ .f32 0x3F800000#32) (constant S_ .f32 0x501502F9#32)))
      (Host.sqrt (Host.reduceAdd (mulf (offsets a0 a1) (offsets a0 a1)) (constant S_ .f32 0x00000000#32)
        reducesTo_S1x16384x3x3_S1x16384x3_d3 h_S_)))

/-- The sum of a query's three weights, once for each of the three. -/
def totals (a0 : FVec Ideal S1x3x16384 .f32) (a1 : FVec Ideal S1x3x4096 .f32) : FVec Ideal S1x16384x3 .f32 :=
  broadcastInDim S1x16384x3 ![0, 1, 2] bcast_S1x16384x1_S1x16384x3_0_1_2
    (broadcastInDim S1x16384x1 ![0, 1] bcast_S1x16384_S1x16384x1_0_1
      (Host.reduceAdd (inverses a0 a1) (constant S_ .f32 0x00000000#32) reducesTo_S1x16384x3_S1x16384_d2 h_S_))

/-- The reference's result. -/
def out (a0 : FVec Ideal S1x3x16384 .f32) (a1 a2 : FVec Ideal S1x3x4096 .f32) : FVec Ideal S1x3x16384 .f32 :=
  transpose S1x3x16384 [0, 2, 1]
    (Host.reduceAdd
      (mulf
        (broadcastInDim S1x16384x3x3 ![0, 1, 2, 3] bcast_S1x16384x3x1_S1x16384x3x3_0_1_2_3
          (broadcastInDim S1x16384x3x1 ![0, 1, 2] bcast_S1x16384x3_S1x16384x3x1_0_1_2 (Host.divf (inverses a0 a1) (totals a0 a1))))
        (taken a0 a1 a2))
      (constant S_ .f32 0x00000000#32) reducesTo_S1x16384x3x3_S1x16384x3_d2 h_S_)
    transposes_S1x16384x3_S1x3x16384_0_2_1

variable (a0 : FVec Ideal S1x3x16384 .f32) (a1 a2 : FVec Ideal S1x3x4096 .f32)

/-! ### The stages at an index -/

/-- The score of key `s` for query `n`. -/
theorem scores_apply (n : Fin 16384) (s : Fin 4096) :
    scores a0 a1 (ix3 0 n s) = nearness (point a0 n) (point a1) s := by
  pointwise [scores, cross, lengthsQ, lengthsK]
  rw [minus_two]
  rfl

/-- The scores of query `n` as a family over the keys. -/
theorem scores_row (n : Fin 16384) :
    (fun s => scores a0 a1 (ix3 0 n s)) = nearness (point a0 n) (point a1) := funext fun s => scores_apply a0 a1 n s

/-- The position of the key of rank `k` for query `n`. -/
theorem chosen_apply (n : Fin 16384) (k : Fin 3) :
    chosen a0 a1 (ix3 0 n k) = BitVec.ofNat 32 (nearest (point a0 n) (point a1) k.castSucc).val := by
  unfold chosen
  rw [topK_position _ (by decide), scores_row]
  rfl

/-- A position below 4096, read as a signed word, is itself. -/
theorem position_word (s : Fin 4096) : (BitVec.ofNat 32 s.val).toInt = s.val := by
  have hs := s.isLt
  rw [BitVec.toInt_eq_toNat_of_lt] <;> rw [BitVec.toNat_ofNat, Nat.mod_eq_of_lt (by omega)]
  omega

/-- A position below 4096, read as a signed word, is not negative. -/
theorem not_negative (s : Fin 4096) : IntOp.cmpi .slt (BitVec.ofNat 32 s.val) 0#32 = 0#1 := by
  simp only [IntOp.cmpi, BitVec.slt, position_word]
  rw [decide_eq_false (by simp)]
  rfl

/-- The row taken for rank `k` of query `n`: no position is negative. -/
theorem rows_apply (n : Fin 16384) (k : Fin 3) :
    rows a0 a1 (ix4 0 n k 0) = BitVec.ofNat 32 (nearest (point a0 n) (point a1) k.castSucc).val := by
  pointwise [rows]
  rw [chosen_apply, not_negative]
  rfl

/-- Where the taking of rows looks up its row. -/
theorem row_index (n : Fin 16384) (k c : Fin 3) (z) :
    gather_S1x4096x3_S1x16384x3x1_S1x16384x3x3_3_1_0_0_1_3_113.siIdx (ix4 0 n k c) z = ix4 0 n k 0 := by
  funext b
  match b with
  | ⟨0, _⟩ => rfl
  | ⟨1, _⟩ => rfl
  | ⟨2, _⟩ => rfl
  | ⟨3, _⟩ => exact Subsingleton.elim (α := Fin 1) _ _

/-- Taking rows of an array, where the row is in the array. -/
theorem gather_row (x : FVec Ideal S1x4096x3 .f32) (I : IVec S1x16384x3x1 32) (n : Fin 16384) (k c : Fin 3) (s : Fin 4096)
    (hs : I (ix4 0 n k 0) = BitVec.ofNat 32 s.val) :
    Host.gather gather_S1x4096x3_S1x16384x3x1_S1x16384x3x3_3_1_0_0_1_3_113 x I (ix4 0 n k c) = x (ix3 0 s c) := by
  unfold Host.gather
  congr 1
  funext a
  match a with
  | ⟨0, _⟩ => exact Subsingleton.elim (α := Fin 1) _ _
  | ⟨1, _⟩ =>
    apply Fin.ext
    show min (I (GatherDims.siIdx gather_S1x4096x3_S1x16384x3x1_S1x16384x3x3_3_1_0_0_1_3_113 (ix4 0 n k c) _)).toInt.toNat
      (4096 - 1) + 0 + 0 = s.val
    rw [row_index, hs, position_word]
    have := s.isLt
    omega
  | ⟨2, _⟩ =>
    apply Fin.ext
    show 0 + 0 + c.val = c.val
    omega

/-- Coordinate `c` of the point taken for rank `k` of query `n`. -/
theorem taken_apply (a : FVec Ideal S1x3x4096 .f32) (n : Fin 16384) (k c : Fin 3) :
    taken a0 a1 a (ix4 0 n k c) = point a (nearest (point a0 n) (point a1) k.castSucc) c := by
  unfold taken
  rw [gather_row _ _ n k c _ (rows_apply a0 a1 n k)]
  pointwise
  rfl

/-- The weight of rank `k` of query `n`. -/
theorem inverses_apply (n : Fin 16384) (k : Fin 3) :
    inverses a0 a1 (ix3 0 n k) = weightOf (point a0 n) (point a1) k := by
  pointwise [inverses, offsets]
  simp only [taken_apply, one_word, floor_word]
  rfl

/-- The sum of the weights of query `n`. -/
theorem totals_apply (n : Fin 16384) (k : Fin 3) :
    totals a0 a1 (ix3 0 n k) = ∑ j, weightOf (point a0 n) (point a1) j := by
  pointwise [totals]
  simp only [inverses_apply]

/-- The reference's result at component `c` of query `n` is the interpolation. -/
theorem out_apply (c : Fin 3) (n : Fin 16384) :
    out a0 a1 a2 (ix3 0 c n) = interpolated (point a0 n) (point a1) (point a2) c := by
  pointwise [out]
  simp only [taken_apply, inverses_apply, totals_apply]
  rfl

/-! ### The precondition -/

/-- The scores of the four nearest keys of each query. -/
def fourth (a0 : FVec Ideal S1x3x16384 .f32) (a1 : FVec Ideal S1x3x4096 .f32) : FVec Ideal ⟨3, ![1, 16384, 4]⟩ .f32 :=
  (Host.topK ⟨3, ![1, 16384, 4]⟩ 2 (FloatOps.cmpfTotal .gt) (scores a0 a1)
    Cert.Pre_four_nearest_apart.Gen.sliceFits_S1x16384x4096_S1x16384x4).1

/-- The score of rank `k` for query `n`. -/
theorem fourth_apply (n : Fin 16384) (k : Fin 4) :
    fourth a0 a1 (ix3 0 n k) = nearness (point a0 n) (point a1) (nearest (point a0 n) (point a1) k) := by
  unfold fourth
  rw [topK_value _ (by decide), scores_row, scores_apply]
  rfl

/-- The precondition's vector: whether each of the ranks 1, 2, 3 scores below the one before it. -/
def below (a0 : FVec Ideal S1x3x16384 .f32) (a1 : FVec Ideal S1x3x4096 .f32) : IVec S1x16384x3 1 :=
  cmpf .olt
    (extractStridedSlice S1x16384x3 ![0, 0, 1] (fourth a0 a1) Cert.Pre_four_nearest_apart.Gen.slices_S1x16384x4_S1x16384x3_0_0_1)
    (extractStridedSlice S1x16384x3 ![0, 0, 0] (fourth a0 a1) Cert.Pre_four_nearest_apart.Gen.slices_S1x16384x4_S1x16384x3_0_0_0)

/-- The precondition is that vector. -/
theorem pre_eq : Cert.Pre_four_nearest_apart.fn (F := Ideal) a0 a1 a2 = below a0 a1 := rfl

/-- A one-bit word holding a truth value that reads one: the value is true. -/
theorem bool_of_word {b : Bool} (h : BitVec.ofBool b = 1#1) : b = true := by
  cases b
  · exact absurd h (by decide)
  · rfl

/-- The precondition says of every query that its four nearest keys stand at strictly increasing distances. -/
theorem apart_of_pre (h : Cert.Pre_four_nearest_apart.fn (F := Ideal) a0 a1 a2 = fun _ => 1#1) (n : Fin 16384) :
    FourApart (point a0 n) (point a1) := by
  intro k
  rw [← fourth_apply, ← fourth_apply]
  have e := congrFun (pre_eq a0 a1 a2 ▸ h) (ix3 0 n k)
  revert e
  pointwise [below]
  intro e
  have hs : k.succ = ⟨1 + k.val, by omega⟩ := Fin.ext (Nat.add_comm _ _)
  rw [hs]
  exact of_decide_eq_true (bool_of_word e)

end Cert.Proof.Reference

end
-- ==== Proof.ReferenceRun.lean ====
module

public import proofs.«01_k».proof.Proof.ReferenceRead
public import proofs.«01_k».proof.Proof.Gen.ReferenceIdeal.Run

@[expose] public section

noncomputable section

/-! The reference's run: where its result, its arguments and its counters end. -/

namespace Cert.Proof.Reference

open Cert.ReferenceIdeal Cert.ReferenceIdeal.Gen Idealize.ShloMosaic Idealize.SL.Sem

/-- The term the run leaves in the result is the reference's last stage. -/
theorem result_eq (m : (ℓ : Loc nD τ sig) → Buf (Elt Ideal) ℓ) (c : Dev nD) :
    Cert.ReferenceIdeal.Value.res_main_v49 m c =
      out (m ((c.tc : Thread nD τ).loc main_arg0)) (m ((c.tc : Thread nD τ).loc main_arg1)) (m ((c.tc : Thread nD τ).loc main_arg2)) :=
  rfl

/-- The reference ends with its result at the last stage of its arguments, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) =
          out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c).1.trans (result_eq m c), (h c).2⟩) (Cert.ReferenceIdeal.Value.run m ρ)

/-- The reference ends with its arguments unchanged and every counter at zero: it declares no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

end Cert.Proof.Reference

end
-- ==== Proof.Select.lean ====
/- Three rounds of "take the least entry and strike it out" find the three least entries of a column, where these
   are strictly apart: the statements are over any finite column of extended reals. -/
module

public import Mathlib.Data.EReal.Operations
public import Mathlib.Data.Finset.Fold
public import Mathlib.Algebra.BigOperators.Fin

@[expose] public section

noncomputable section

namespace Cert.Proof

open scoped BigOperators

variable {n : Nat}

/-- The least entry of a column, `⊤` for the empty one. -/
def least (d : Fin n → EReal) : EReal := Finset.univ.fold min ⊤ d

/-- The column with every entry equal to its least one struck out (set to `⊤`). -/
def strike (d : Fin n → EReal) : Fin n → EReal := fun s => if d s = least d then ⊤ else d s

/-- Position `s` is taken in one of the first three rounds. -/
def Taken (d : Fin n → EReal) (s : Fin n) : Prop :=
  (d s = least d ∨ strike d s = least (strike d)) ∨ strike (strike d) s = least (strike (strike d))

/-- `a` holds the one least entry of the column. -/
def OnlyLeast (d : Fin n → EReal) (a : Fin n) : Prop := ∀ s, s ≠ a → d a < d s

variable {d : Fin n → EReal} {a : Fin n}

/-- The least entry is the entry at the position that holds it. -/
theorem OnlyLeast.least_eq (h : OnlyLeast d a) : least d = d a := by
  apply le_antisymm
  · exact Finset.fold_min_le (d a) |>.mpr (Or.inr ⟨a, Finset.mem_univ a, le_rfl⟩)
  · refine Finset.le_fold_min (d a) |>.mpr ⟨le_top, fun s _ => ?_⟩
    by_cases e : s = a
    · rw [e]
    · exact (h s e).le

/-- Only that position equals the least entry. -/
theorem OnlyLeast.eq_iff (h : OnlyLeast d a) (s : Fin n) : d s = least d ↔ s = a := by
  rw [h.least_eq]
  refine ⟨fun e => ?_, fun e => by rw [e]⟩
  by_contra hne
  exact absurd e (h s hne).ne'

/-- Striking out the least entry sets that position to `⊤` and keeps the others. -/
theorem OnlyLeast.strike_eq (h : OnlyLeast d a) (s : Fin n) : strike d s = if s = a then ⊤ else d s := by
  unfold strike
  by_cases e : s = a
  · rw [if_pos ((h.eq_iff s).mpr e), if_pos e]
  · rw [if_neg (fun e' => e ((h.eq_iff s).mp e')), if_neg e]

/-- A column whose entries at `σ 0`, `σ 1`, `σ 2`, `σ 3` increase strictly, every position but the first three
    holding at least the entry at `σ 3`: the three rounds take `σ 0`, `σ 1` and `σ 2` and nothing else. -/
theorem taken_iff (d : Fin n → EReal) (σ : Fin 4 → Fin n) (h01 : d (σ 0) < d (σ 1)) (h12 : d (σ 1) < d (σ 2))
    (h23 : d (σ 2) < d (σ 3)) (hrest : ∀ s, s ≠ σ 0 → s ≠ σ 1 → s ≠ σ 2 → d (σ 3) ≤ d s) (s : Fin n) :
    Taken d s ↔ (s = σ 0 ∨ s = σ 1) ∨ s = σ 2 := by
  have n01 : σ 0 ≠ σ 1 := fun e => by rw [e] at h01; exact lt_irrefl _ h01
  have n02 : σ 0 ≠ σ 2 := fun e => by rw [e] at h01; exact lt_irrefl _ (h01.trans h12)
  have n12 : σ 1 ≠ σ 2 := fun e => by rw [e] at h12; exact lt_irrefl _ h12
  have L0 : OnlyLeast d (σ 0) := by
    intro s hs
    by_cases e1 : s = σ 1
    · rw [e1]; exact h01
    by_cases e2 : s = σ 2
    · rw [e2]; exact h01.trans h12
    exact (h01.trans (h12.trans h23)).trans_le (hrest s hs e1 e2)
  have L1 : OnlyLeast (strike d) (σ 1) := by
    intro s hs
    rw [L0.strike_eq, L0.strike_eq, if_neg n01.symm]
    by_cases e0 : s = σ 0
    · rw [if_pos e0]; exact h12.trans_le le_top
    rw [if_neg e0]
    by_cases e2 : s = σ 2
    · rw [e2]; exact h12
    exact (h12.trans h23).trans_le (hrest s e0 hs e2)
  have L2 : OnlyLeast (strike (strike d)) (σ 2) := by
    intro s hs
    rw [L1.strike_eq, L1.strike_eq, if_neg n12.symm, L0.strike_eq, L0.strike_eq, if_neg n02.symm]
    by_cases e1 : s = σ 1
    · rw [if_pos e1]; exact h23.trans_le le_top
    rw [if_neg e1]
    by_cases e0 : s = σ 0
    · rw [if_pos e0]; exact h23.trans_le le_top
    rw [if_neg e0]
    exact h23.trans_le (hrest s e0 e1 hs)
  unfold Taken
  rw [L0.eq_iff, L1.eq_iff, L2.eq_iff]

/-- A sum over all positions of a term that vanishes off three different positions is the sum of its three values there. -/
theorem sum_eq_three (σ : Fin 3 → Fin n) (hσ : Function.Injective σ) (g : Fin n → EReal)
    (h : ∀ s, (∀ k, s ≠ σ k) → g s = 0) : ∑ s, g s = ∑ k, g (σ k) := by
  have e : ∑ k, g (σ k) = ∑ s ∈ Finset.univ.image σ, g s :=
    (Finset.sum_image fun a _ b _ hab => hσ hab).symm
  rw [e]
  refine (Finset.sum_subset (Finset.subset_univ _) fun s _ hs => h s fun k hk => hs ?_).symm
  rw [hk]
  exact Finset.mem_image_of_mem σ (Finset.mem_univ k)

end Cert.Proof

end
-- ==== Proof.Meet.lean ====
module

public import proofs.«01_k».proof.Proof.Target
public import proofs.«01_k».proof.Proof.Select

@[expose] public section

noncomputable section

/-! The kernel's value and the interpolation: equal where the four nearest keys stand at strictly increasing distances. -/

namespace Cert.Proof

open Idealize.ShloMosaic
open scoped BigOperators

open Classical in
/-- The kernel's weight of a key: the inverse distance where three rounds of taking the least took it, else zero. -/
def masked (p : Fin 3 → EReal) (keys : Fin 4096 → Fin 3 → EReal) (s : Fin 4096) : EReal :=
  if Taken (fun s => expanded p (keys s)) s then
    Ideal.rsqrt (max (apart p (keys s)) ((1 / 100000000000000000000 : ℝ) : EReal))
  else 0

/-- Component `c` of the kernel's result at a query: the weighted sum of the features, times one over the sum of the weights. -/
def scaled (p : Fin 3 → EReal) (keys features : Fin 4096 → Fin 3 → EReal) (c : Fin 3) : EReal :=
  (∑ s, masked p keys s * features s c) * Ideal.div 1 (∑ s, masked p keys s)

section

variable {p : Fin 3 → EReal} {keys : Fin 4096 → Fin 3 → EReal}

/-- The expanded distances of the four nearest keys increase strictly. -/
theorem FourApart.lt (h : FourApart p keys) (k : Fin 3) :
    expanded p (keys (nearest p keys k.castSucc)) < expanded p (keys (nearest p keys k.succ)) :=
  EReal.neg_lt_neg_iff.mp (h k)

/-- Every key but the three nearest is no nearer than the fourth. -/
theorem fourth_le (s : Fin 4096) (h0 : s ≠ nearest p keys 0) (h1 : s ≠ nearest p keys 1) (h2 : s ≠ nearest p keys 2) :
    expanded p (keys (nearest p keys 3)) ≤ expanded p (keys s) := by
  refine EReal.neg_le_neg_iff.mp (le_of_not_rank (nearness p keys) ((3 : Fin 4).castLE (by decide)) s fun i hi e => ?_)
  have hi' : i.val < 3 := hi
  have hc : i.val = 0 ∨ i.val = 1 ∨ i.val = 2 := by omega
  rcases hc with hc | hc | hc
  · exact h0 (e.trans (congrArg (rank _) (Fin.ext hc)))
  · exact h1 (e.trans (congrArg (rank _) (Fin.ext hc)))
  · exact h2 (e.trans (congrArg (rank _) (Fin.ext hc)))

/-- The three rounds take the three nearest keys and no other. -/
theorem FourApart.taken (h : FourApart p keys) (s : Fin 4096) :
    Taken (fun s => expanded p (keys s)) s ↔ (s = nearest p keys 0 ∨ s = nearest p keys 1) ∨ s = nearest p keys 2 :=
  taken_iff (fun s => expanded p (keys s)) (nearest p keys) (h.lt 0) (h.lt 1) (h.lt 2) fourth_le s

/-- The three nearest keys are different. -/
theorem FourApart.injective (h : FourApart p keys) : Function.Injective fun k : Fin 3 => nearest p keys k.castSucc := by
  have hm : StrictMono fun k : Fin 3 => expanded p (keys (nearest p keys k.castSucc)) := by
    refine Fin.strictMono_iff_lt_succ.mpr fun k => ?_
    match k with
    | 0 => exact h.lt 0
    | 1 => exact h.lt 1
  intro a b e
  exact hm.injective (congrArg (fun s => expanded p (keys s)) e)

/-- The kernel's weight of one of the three nearest keys is the interpolation's. -/
theorem FourApart.masked_nearest (h : FourApart p keys) (k : Fin 3) :
    masked p keys (nearest p keys k.castSucc) = weightOf p keys k := by
  unfold masked weightOf
  rw [if_pos ((h.taken _).mpr ?_), rsqrt_eq_weight _ (apart_nonneg _ _)]
  match k with
  | 0 => exact Or.inl (Or.inl rfl)
  | 1 => exact Or.inl (Or.inr rfl)
  | 2 => exact Or.inr rfl

/-- The kernel's weight of every other key is zero. -/
theorem FourApart.masked_other (h : FourApart p keys) (s : Fin 4096) (hs : ∀ k : Fin 3, s ≠ nearest p keys k.castSucc) :
    masked p keys s = 0 := by
  unfold masked
  rw [if_neg]
  intro ht
  rcases (h.taken s).mp ht with (e | e) | e
  · exact hs 0 e
  · exact hs 1 e
  · exact hs 2 e

/-- The weight of the second nearest key is a positive real number: its distance lies strictly between two others. -/
theorem FourApart.second (h : FourApart p keys) : ∃ w : ℝ, 0 < w ∧ weightOf p keys 1 = w := by
  obtain ⟨r, hr, e⟩ := apart_real p (keys (nearest p keys 1)) (ne_bot_of_gt (h.lt 0)) (ne_top_of_lt (h.lt 1))
  refine ⟨1 / max (1 / 10000000000) (Real.sqrt r), by positivity, ?_⟩
  rw [← weight_coe r hr, ← e]
  rfl

/-- The kernel's value is the interpolation. -/
theorem FourApart.scaled_eq (h : FourApart p keys) (features : Fin 4096 → Fin 3 → EReal) (c : Fin 3) :
    scaled p keys features c = interpolated p keys features c := by
  have hw : ∀ k, ∃ w : ℝ, 0 ≤ w ∧ weightOf p keys k = w := fun k => weight_real _ (apart_nonneg _ _)
  choose w hw0 hwe using hw
  have hpos : 0 < w 1 := by
    obtain ⟨v, hv, e⟩ := h.second
    rw [hwe 1] at e
    exact EReal.coe_injective e ▸ hv
  unfold scaled interpolated
  rw [sum_eq_three _ h.injective (fun s => masked p keys s * features s c) fun s hs => by
      show masked p keys s * features s c = 0
      rw [h.masked_other s hs, zero_mul],
    sum_eq_three _ h.injective (masked p keys) h.masked_other]
  simp only [h.masked_nearest, hwe]
  exact scale_after_eq_before w hw0 1 hpos _

end

end Cert.Proof

end
-- ==== Proof.KernelRead.lean ====
module

public import proofs.«01_k».proof.Proof.Meet
public import proofs.«01_k».proof.Proof.Gen.KernelIdeal.Frame
public import Idealize.ShloMosaic.Lib.Pipeline.ValueKit

@[expose] public section

set_option maxRecDepth 16384
noncomputable section

/-! What the kernel's body leaves in its block of the result, at an index. -/

namespace Cert.Proof.Kernel

open Cert.KernelIdeal Cert.KernelIdeal.Gen Idealize.ShloMosaic Idealize.ShloMosaic.StableHlo
open scoped BigOperators

/-! ### The literals -/

/-- The word of minus two. -/
theorem minus_two : Ideal.ofBits FTy.f32 0xC0000000#32 = ((-2 : ℝ) : EReal) := by
  simp [Ideal.ofBits, Ideal.ieee, -EReal.coe_mul]; norm_num

/-- The word of positive infinity. -/
theorem infinity : Ideal.ofBits FTy.f32 0x7F800000#32 = ⊤ := by
  simp [Ideal.ofBits, Ideal.ieee]

/-- The floor of the squared distance, ten to the minus twenty. -/
theorem floor_squared : (Named.named (F := Ideal) (φ := .f32) κ "eps_sq" 0x1E3CE508#32 : EReal) = ((1 / 100000000000000000000 : ℝ) : EReal) := rfl

/-! ### The payloads at an index -/

/-- A choice made where one of three equalities holds. -/
theorem select_three (P Q R : Prop) [Decidable P] [Decidable Q] [Decidable R] [Decidable ((P ∨ Q) ∨ R)] (x y : EReal) :
    Scalar.select (IntOp.ori (IntOp.ori (BitVec.ofBool (decide P)) (BitVec.ofBool (decide Q))) (BitVec.ofBool (decide R))) x y =
      if (P ∨ Q) ∨ R then x else y := by
  by_cases hP : P <;> by_cases hQ : Q <;> by_cases hR : R <;> simp [hP, hQ, hR, Scalar.select, IntOp.ori]

/-- The expanded squared distance of key `s` to query `l` of the block. -/
theorem pay3_apply (q : Vec Ideal S3x512 .f32) (kx : Vec Ideal S4096x3 .f32) (ks : Vec Ideal S4096x1 .f32) (s : Fin 4096) (l : Fin 512)
    (hks : ks (ix2 s 0) = ∑ c, kx (ix2 s c) * kx (ix2 s c)) :
    k0_pay3 q kx ks (ix2 s l) = expanded (fun c => q (ix2 c l)) (fun c => kx (ix2 s c)) := by
  pointwise [k0_pay3, k0_pay2]
  rw [minus_two, hks]
  unfold expanded
  simp only [mul_comm (kx _) (q _), Fin.sum_univ_three]

/-- The first two squares of the direct squared distance. -/
theorem pay4_apply (q : Vec Ideal S3x512 .f32) (k0 k1 : Vec Ideal S4096x1 .f32) (s : Fin 4096) (l : Fin 512) :
    k0_pay4 q k0 k1 (ix2 s l) = (k0 (ix2 s 0) - q (ix2 0 l)) * (k0 (ix2 s 0) - q (ix2 0 l)) +
      (k1 (ix2 s 0) - q (ix2 1 l)) * (k1 (ix2 s 0) - q (ix2 1 l)) := by
  pointwise [k0_pay4, k0_pay2]

open Classical in
/-- The weight of key `s` for query `l`: the inverse distance where three rounds of taking the least took it, else zero. -/
theorem pay7_apply (v23 v40 : FVec Ideal S4096x512 .f32) (v42 : FVec Ideal S4096x1 .f32) (v43 : FVec Ideal S1x512 .f32)
    (s : Fin 4096) (l : Fin 512) :
    k0_pay7 v23 v40 v42 v43 (ix2 s l) =
      if Taken (fun s => v23 (ix2 s l)) s then
        Ideal.rsqrt (max (v40 (ix2 s l) + (v42 (ix2 s 0) - v43 (ix2 0 l)) * (v42 (ix2 s 0) - v43 (ix2 0 l)))
          ((1 / 100000000000000000000 : ℝ) : EReal))
      else 0 := by
  pointwise [k0_pay7]
  rw [floor_squared, infinity, select_three]
  exact if_congr Iff.rfl rfl rfl

/-- One over the sum of a query's weights. -/
theorem pay8_apply (v23 v40 : FVec Ideal S4096x512 .f32) (v42 : FVec Ideal S4096x1 .f32) (v43 : FVec Ideal S1x512 .f32) (l : Fin 512) :
    k0_pay8 v23 v40 v42 v43 (ix2 0 l) = Ideal.div 1 (∑ s, k0_pay7 v23 v40 v42 v43 (ix2 s l)) := by
  pointwise [k0_pay8]

/-- The first component: the weighted sum of the features, times one over the sum of the weights. -/
theorem pay9_apply (v23 v40 : FVec Ideal S4096x512 .f32) (v42 : FVec Ideal S4096x1 .f32) (v43 : FVec Ideal S1x512 .f32)
    (f : Vec Ideal S4096x1 .f32) (l : Fin 512) :
    k0_pay9 v23 v40 v42 v43 f (ix2 0 l) = (∑ s, k0_pay7 v23 v40 v42 v43 (ix2 s l) * f (ix2 s 0)) * k0_pay8 v23 v40 v42 v43 (ix2 0 l) := by
  pointwise [k0_pay9]

/-- The second component before it is scaled. -/
theorem pay10_apply (v23 v40 : FVec Ideal S4096x512 .f32) (v42 : FVec Ideal S4096x1 .f32) (v43 : FVec Ideal S1x512 .f32)
    (f : Vec Ideal S4096x1 .f32) (l : Fin 512) :
    k0_pay10 v23 v40 v42 v43 f (ix2 0 l) = ∑ s, k0_pay7 v23 v40 v42 v43 (ix2 s l) * f (ix2 s 0) := by
  pointwise [k0_pay10]

/-- The block's first row. -/
theorem pay1_zero (r : FVec Ideal S4096x512 .f32) (t u v : FVec Ideal S1x512 .f32) (f : Vec Ideal S4096x1 .f32) (l : Fin 512) :
    k0_pay1 r t u v f (ix2 0 l) = u (ix2 0 l) := by
  pointwise [k0_pay1]
/-- The block's second row. -/
theorem pay1_one (r : FVec Ideal S4096x512 .f32) (t u v : FVec Ideal S1x512 .f32) (f : Vec Ideal S4096x1 .f32) (l : Fin 512) :
    k0_pay1 r t u v f (ix2 1 l) = v (ix2 0 l) * t (ix2 0 l) := by
  pointwise [k0_pay1]
/-- The block's third row. -/
theorem pay1_two (r : FVec Ideal S4096x512 .f32) (t u v : FVec Ideal S1x512 .f32) (f : Vec Ideal S4096x1 .f32) (l : Fin 512) :
    k0_pay1 r t u v f (ix2 2 l) = (∑ s, r (ix2 s l) * f (ix2 s 0)) * t (ix2 0 l) := by
  pointwise [k0_pay1]

/-! ### The loads -/

/-- One column of an array of points, as the loads of a single column leave it. -/
def column (x : Vec Ideal S4096x3 .f32) (c : Fin 3) : Vec Ideal S4096x1 .f32 := fun i => x (ix2 (i 0) c)

/-- A column at an index. -/
theorem column_apply (x : Vec Ideal S4096x3 .f32) (c : Fin 3) (s : Fin 4096) : column x c (ix2 s 0) = x (ix2 s c) := rfl

/-- The whole block of queries. -/
theorem load_queries (x : Vec Ideal S3x512 .f32) : View.ld x r0_0 = x := by
  funext j
  idx_vars j
  pointwise
/-- The whole array of keys. -/
theorem load_keys (x : Vec Ideal S4096x3 .f32) : View.ld x r0_1 = x := by
  funext j
  idx_vars j
  pointwise
/-- The keys' squared lengths. -/
theorem load_lengths (x : Vec Ideal S4096x1 .f32) : View.ld x r0_2 = x := by
  funext j
  idx_vars j
  rw [Subsingleton.elim j1 0]
  pointwise
/-- The first column of an array of points. -/
theorem load_first (x : Vec Ideal S4096x3 .f32) : View.ld x r0_3 = column x 0 := by
  funext j
  idx_vars j
  pointwise [column]
/-- The second column. -/
theorem load_second (x : Vec Ideal S4096x3 .f32) : View.ld x r0_4 = column x 1 := by
  funext j
  idx_vars j
  pointwise [column]
/-- The third column. -/
theorem load_third (x : Vec Ideal S4096x3 .f32) : View.ld x r0_5 = column x 2 := by
  funext j
  idx_vars j
  pointwise [column]

/-! ### The block the body leaves -/

section Block

variable (x0 : Vec Ideal S3x512 .f32) (x1 x2 : Vec Ideal S4096x3 .f32) (x3 : Vec Ideal S4096x1 .f32)

/-- The weights of a block. -/
theorem weights_apply (hks : ∀ s, x3 (ix2 s 0) = ∑ c, x1 (ix2 s c) * x1 (ix2 s c)) (s : Fin 4096) (l : Fin 512) :
    k0_pay7 (k0_pay11 x0 x1 x2 x3) (k0_pay12 x0 x1 x2 x3) (k0_pay13 x0 x1 x2 x3) (k0_pay14 x0 x1 x2 x3) (ix2 s l) =
      masked (fun c => x0 (ix2 c l)) (fun s c => x1 (ix2 s c)) s := by
  have hd : (fun s => k0_pay11 x0 x1 x2 x3 (ix2 s l)) = fun s => expanded (fun c => x0 (ix2 c l)) (fun c => x1 (ix2 s c)) := by
    funext s
    unfold k0_pay11
    rw [load_queries, load_keys, load_lengths, pay3_apply _ _ _ _ _ (hks s)]
  rw [pay7_apply, hd]
  unfold masked k0_pay12 k0_pay13 k0_pay14
  rw [load_queries, load_first, load_second, load_third, pay4_apply]
  pointwise [k0_pay5, k0_pay6, k0_pay2]
  unfold apart
  rw [Fin.sum_univ_three]
  rfl

/-- The block the body leaves, at row `c` and query `l`. -/
theorem block_apply (hks : ∀ s, x3 (ix2 s 0) = ∑ c, x1 (ix2 s c) * x1 (ix2 s c)) (c : Fin 3) (l : Fin 512) :
    out0_4 x0 x1 x2 x3 (ix2 c l) = scaled (fun c => x0 (ix2 c l)) (fun s c => x1 (ix2 s c)) (fun s c => x2 (ix2 s c)) c := by
  unfold out0_4 scaled
  rw [load_first, load_second, load_third, View.canon_cons_unit_lit _ _ _ (by decide)]
  match c with
  | 0 => simp only [pay1_zero, pay9_apply, pay8_apply, weights_apply x0 x1 x2 x3 hks, column_apply]
  | 1 => simp only [pay1_one, pay10_apply, pay8_apply, weights_apply x0 x1 x2 x3 hks, column_apply]
  | 2 => simp only [pay1_two, pay8_apply, weights_apply x0 x1 x2 x3 hks, column_apply]

end Block

end Cert.Proof.Kernel

end
-- ==== Proof.KernelRun.lean ====
module

public import proofs.«01_k».proof.Proof.KernelRead

@[expose] public section

set_option maxRecDepth 16384
noncomputable section

/-! The kernel's launch: from the blocks its grid points leave to its result as one function of the arguments. -/

namespace Cert.Proof.Kernel

open Cert.KernelIdeal Cert.KernelIdeal.Gen Idealize.ShloMosaic Idealize.ShloMosaic.TcCoe Idealize.SL.Sem
open Cert.Proof

variable (m : (ℓ : Loc nD τ sig) → Buf (Elt Ideal) ℓ) (ρ : Dev nD → PrngReg)

/-- The query points as launched. -/
abbrev queries (c : Dev nD) : Vec Ideal S1x3x16384 .f32 := m ((c.tc : Thread nD τ).loc main_arg0)
/-- The key points as launched. -/
abbrev keyPoints (c : Dev nD) : Vec Ideal S1x3x4096 .f32 := m ((c.tc : Thread nD τ).loc main_arg1)
/-- The features of the keys as launched. -/
abbrev keyFeatures (c : Dev nD) : Vec Ideal S1x3x4096 .f32 := m ((c.tc : Thread nD τ).loc main_arg2)

/-! ## What the host lines before the region leave -/

/-- The points of an array, one per row. -/
def rows (a : Vec Ideal S1x3x4096 .f32) : Vec Ideal S4096x3 .f32 :=
  transpose S4096x3 [1, 0] (shapeCast S3x4096 a shapeCasts_S1x3x4096_S3x4096) transposes_S3x4096_S4096x3_1_0

/-- The squared lengths of the rows. -/
def squares (x : Vec Ideal S4096x3 .f32) : Vec Ideal S4096x1 .f32 :=
  broadcastInDim S4096x1 ![0] bcast_S4096_S4096x1_0
    (Host.reduceAdd (F := Ideal) (φ := .f32) (mulf x x) (constant S_ .f32 0x00000000#32) reducesTo_S4096x3_S4096_d1 h_S_ :
      Vec Ideal S4096 .f32)

/-- The queries without their leading axis. -/
def flat (a : Vec Ideal S1x3x16384 .f32) : Vec Ideal S3x16384 .f32 :=
  shapeCast S3x16384 a shapeCasts_S1x3x16384_S3x16384

/-- A row is a point. -/
theorem rows_apply (a : Vec Ideal S1x3x4096 .f32) (s : Fin 4096) (k : Fin 3) : rows a (ix2 s k) = point a s k := by
  unfold point
  pointwise [rows]

/-- A column of the queries is a point. -/
theorem flat_apply (a : Vec Ideal S1x3x16384 .f32) (k : Fin 3) (n : Fin 16384) : flat a (ix2 k n) = point a n k := by
  unfold point
  pointwise [flat]

/-- The squared length of a row. -/
theorem squares_apply (x : Vec Ideal S4096x3 .f32) (s : Fin 4096) :
    squares x (ix2 s 0) = ∑ k, x (ix2 s k) * x (ix2 s k) := by
  pointwise [squares]

/-- The region finds the queries without their leading axis. -/
theorem entry_queries (c : Dev nD) : V m c main_v0 = flat (queries m c) := by
  unfold flat
  show StableHlo.after hostOps0 _ _ = _
  after_results_simp <;> rfl

/-- It finds the keys one per row. -/
theorem entry_keys (c : Dev nD) : V m c main_v2 = rows (keyPoints m c) := by
  unfold rows
  show StableHlo.after hostOps0 _ _ = _
  after_results_simp <;> rfl

/-- It finds the features one key per row. -/
theorem entry_features (c : Dev nD) : V m c main_v4 = rows (keyFeatures m c) := by
  unfold rows
  show StableHlo.after hostOps0 _ _ = _
  after_results_simp <;> rfl

/-- It finds the keys' squared lengths. -/
theorem entry_squares (c : Dev nD) : V m c main_v7 = squares (rows (keyPoints m c)) := by
  unfold squares rows
  show StableHlo.after hostOps0 _ _ = _
  after_results_simp <;> rfl

/-! ## The blocks -/

/-- The block of queries at a grid point moves along the second axis with the point. -/
theorem index_queries : ∀ t : Fin cfg0.N, win0_0.index t = ![0, t.val] :=
  (by decide +kernel : ∀ t : Fin grid0.N, win0_0.index t = ![0, t.val])
/-- The keys are one block. -/
theorem index_keys : ∀ t : Fin cfg0.N, win0_1.index t = ![0, 0] :=
  (by decide +kernel : ∀ t : Fin grid0.N, win0_1.index t = ![0, 0])
/-- The features are one block. -/
theorem index_features : ∀ t : Fin cfg0.N, win0_2.index t = ![0, 0] :=
  (by decide +kernel : ∀ t : Fin grid0.N, win0_2.index t = ![0, 0])
/-- The squared lengths are one block. -/
theorem index_squares : ∀ t : Fin cfg0.N, win0_3.index t = ![0, 0] :=
  (by decide +kernel : ∀ t : Fin grid0.N, win0_3.index t = ![0, 0])
/-- The block of the result moves with the queries'. -/
theorem index_result : ∀ t : Fin cfg0.N, win0_4.index t = ![0, t.val] :=
  (by decide +kernel : ∀ t : Fin grid0.N, win0_4.index t = ![0, t.val])

/-- The query that column `l` of block `t` holds. -/
def place (t : Fin cfg0.N) (l : Fin 512) : Fin 16384 :=
  ⟨t.val * 512 + l.val, by have h : t.val < 32 := t.isLt; omega⟩

/-- The block of queries, at an index. -/
theorem block_queries (c : Dev nD) (t : Fin cfg0.N) (k : Fin 3) (l : Fin 512) :
    iblk m c 0 t (ix2 k l) = point (queries m c) (place t l) k := by
  have e := index_queries t
  rw [← flat_apply, ← entry_queries]
  blk_simp [iblk]
  blk_ext [e, place]

/-- The block of keys is the array of keys. -/
theorem block_keys (c : Dev nD) (t : Fin cfg0.N) : iblk m c 1 t = rows (keyPoints m c) := by
  have e := index_keys t
  rw [← entry_keys]
  funext j
  blk_simp [iblk]
  blk_ext [e]

/-- The block of features is the array of features. -/
theorem block_features (c : Dev nD) (t : Fin cfg0.N) : iblk m c 2 t = rows (keyFeatures m c) := by
  have e := index_features t
  rw [← entry_features]
  funext j
  blk_simp [iblk]
  blk_ext [e]

/-- The block of squared lengths is the array of them. -/
theorem block_squares (c : Dev nD) (t : Fin cfg0.N) : iblk m c 3 t = squares (rows (keyPoints m c)) := by
  have e := index_squares t
  rw [← entry_squares]
  funext j
  blk_simp [iblk]
  blk_ext [e]

/-! ## The result -/

/-- The array the region leaves: component `k` of query `n`'s scaled combination of the features. -/
def combined (a0 : Vec Ideal S1x3x16384 .f32) (a1 a2 : Vec Ideal S1x3x4096 .f32) : Vec Ideal S3x16384 .f32 :=
  fun i => scaled (point a0 (i 1)) (point a1) (point a2) (i 0)

/-- What a grid point leaves in its block, at an index. -/
theorem left_apply (c : Dev nD) (t : Fin cfg0.N) (k : Fin 3) (l : Fin 512) :
    out0_4 (iblk m c 0 t) (iblk m c 1 t) (iblk m c 2 t) (iblk m c 3 t) (ix2 k l) =
      scaled (point (queries m c) (place t l)) (point (keyPoints m c)) (point (keyFeatures m c)) k := by
  rw [block_keys, block_features, block_squares, block_apply _ _ _ _ (squares_apply _)]
  simp only [block_queries, rows_apply]

/-- The array the region leaves. -/
theorem array_eq (c : Dev nD) :
    (dats m 0 c).arrAt 4 cfg0.N = combined (queries m c) (keyPoints m c) (keyFeatures m c) := by
  refine (dats m 0 c).arrAt_eq_of_covers 4 _ (by decide +kernel) fun t hf y => ?_
  have e := index_result t
  blk_simp
  rw [after0_4]
  idx_vars y
  have h : (win0_4.blk t).view.emb (ix2 y0 y1) = ix2 y0 (place t y1) := by
    blk_ext [e, place]
  exact (left_apply m c t y0 y1).trans (congrArg (combined _ _ _) h).symm

/-- The result: the region's array under a leading axis. -/
def result (a0 : Vec Ideal S1x3x16384 .f32) (a1 a2 : Vec Ideal S1x3x4096 .f32) : Vec Ideal S1x3x16384 .f32 :=
  broadcastInDim S1x3x16384 ![1, 2] bcast_S3x16384_S1x3x16384_1_2 (combined a0 a1 a2)

/-- The result at an index. -/
theorem result_apply (a0 : Vec Ideal S1x3x16384 .f32) (a1 a2 : Vec Ideal S1x3x4096 .f32) (k : Fin 3) (n : Fin 16384) :
    result a0 a1 a2 (ix3 0 k n) = scaled (point a0 n) (point a1) (point a2) k := by
  pointwise [result]
  rfl

/-- The last host line leaves the result. -/
theorem tail_eq (c : Dev nD) : Pipeline.afterTail₀ cfgs (dats m) 0 (V0 m) [hostOps1] c main_v9 =
    result (queries m c) (keyPoints m c) (keyFeatures m c) := by
  unfold result
  rw [← array_eq]
  unfold Pipeline.afterTail₀
  show StableHlo.after hostOps1 _ _ = _
  after_results_simp
  exact congrArg _ (Pipeline.withArrays_arr spec0 (by decide) c (V0 m c) _ 4)

/-- The kernel ends with its result at one function of its arguments, its arguments unchanged. -/
theorem run : θ_run (defs (F := Ideal)) (onTc (τ := τ) (main (F := Ideal))) ⟨m, fun _ => 0, ρ⟩ fun r => ∀ c : Dev nD,
    r.2.mem ((c.tc : Thread nD τ).loc main_v9) = result (queries m c) (keyPoints m c) (keyFeatures m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  have rest := (h c).2
  exact ⟨(rest main_v9 (Pipeline.mem_restRefs_of main_v9 (by decide) (by decide))).trans (tail_eq m c),
    (rest main_arg0 (Pipeline.mem_restRefs_of main_arg0 (by decide) (by decide))).trans (W_main_arg0 m (dats m) c),
    (rest main_arg1 (Pipeline.mem_restRefs_of main_arg1 (by decide) (by decide))).trans (W_main_arg1 m (dats m) c),
    (rest main_arg2 (Pipeline.mem_restRefs_of main_arg2 (by decide) (by decide))).trans (W_main_arg2 m (dats m) c)⟩

end Cert.Proof.Kernel

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_four_nearest_apart
public import proofs.«01_k».proof.Proof.Gen.ReferenceIdeal.Run
public import proofs.«01_k».proof.Proof.ReferenceRun
public import proofs.«01_k».proof.Proof.KernelRun
public import Idealize.ShloMosaic.Adequacy
public import Idealize.ShloMosaic.Init

@[expose] public section

set_option maxRecDepth 16384

noncomputable section

namespace Cert.Proof

open Idealize.ShloMosaic Idealize.SL.Sem

/-- Where the four nearest keys of every query lie at different distances, the kernel's result is the reference's. -/
theorem results_agree (a0 : Vec Ideal Cert.KernelIdeal.S1x3x16384 .f32) (a1 a2 : Vec Ideal Cert.KernelIdeal.S1x3x4096 .f32)
    (h : Cert.Pre_four_nearest_apart.fn (F := Ideal) a0 a1 a2 = fun _ => 1#1) :
    Kernel.result a0 a1 a2 = Reference.out a0 a1 a2 := by
  funext j
  idx_vars j
  obtain rfl : j0 = 0 := Subsingleton.elim _ _
  rw [Reference.out_apply, Kernel.result_apply]
  exact (Reference.apart_of_pre a0 a1 a2 h j2).scaled_eq (point a2) j1

/-- The kernel and the reference end with equal results, from equal arguments of which the precondition holds. -/
theorem algebraic : Cert.algebraic_KernelIdeal_ReferenceIdeal_pre_four_nearest_apart := by
  intro m g m' g' hpre hargs
  refine ⟨fun c => Kernel.result (Kernel.queries m c) (Kernel.keyPoints m c) (Kernel.keyFeatures m c), Kernel.run m g, ?_⟩
  refine (θ_run Cert.ReferenceIdeal.defs _ _).mono (fun r h c => ⟨?_, (h c).2⟩) (Reference.run m' g')
  obtain ⟨e0, e1, e2⟩ := hargs c
  rw [(h c).1, e0, e1, e2]
  exact (results_agree _ _ _ (hpre c)).symm

/-- The claims of this certificate. -/
theorem claim : Cert.Claim :=
  ⟨Cert.Kernel.Gen.facts, Cert.KernelIdeal.Gen.facts, Cert.ReferenceIdeal.Gen.facts, Cert.Pre_four_nearest_apart.Gen.facts,
    fun m g _ => Cert.Kernel.Gen.frame m g,
    fun m g _ => Cert.KernelIdeal.Gen.frame m g,
    fun m g _ => Cert.KernelIdeal.Gen.frame m g,
    fun m g _ => Reference.quiet m g,
    fun m g _ => Reference.quiet m g,
    IdealRules.named_const.statement Cert.KernelIdeal.κ "eps_sq" .f32 0x1E3CE508#32 _ rfl,
    algebraic⟩

end Cert.Proof

end
